-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonneg [hPre_rows_nonneg : Cert.Pre_rows_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonneg [hPre_rows_nonneg : Cert.Pre_rows_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_nonneg [hKernelIdeal : Cert.KernelIdeal.Facts] [hPre_rows_nonneg : Cert.Pre_rows_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_nonneg [hReferenceIdeal : Cert.ReferenceIdeal.Facts] [hPre_rows_nonneg : Cert.Pre_rows_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_nonneg [hKernelIdeal : Cert.KernelIdeal.Facts] [hReferenceIdeal : Cert.ReferenceIdeal.Facts] [hPre_rows_nonneg : Cert.Pre_rows_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_nonneg : Cert.Pre_rows_nonneg.Facts),
    quiescent_Kernel (hKernel := hKernel)
    ∧ quiescent_KernelIdeal (hKernelIdeal := hKernelIdeal)
    ∧ quiescent_KernelIdeal_pre_rows_nonneg (hKernelIdeal := hKernelIdeal) (hPre_rows_nonneg := hPre_rows_nonneg)
    ∧ quiescent_ReferenceIdeal (hReferenceIdeal := hReferenceIdeal)
    ∧ quiescent_ReferenceIdeal_pre_rows_nonneg (hReferenceIdeal := hReferenceIdeal) (hPre_rows_nonneg := hPre_rows_nonneg)
    ∧ preserves_Kernel_KernelIdeal
    ∧ algebraic_KernelIdeal_ReferenceIdeal_pre_rows_nonneg (hKernelIdeal := hKernelIdeal) (hReferenceIdeal := hReferenceIdeal) (hPre_rows_nonneg := hPre_rows_nonneg)
-- ==== Pre_rows_nonneg.lean ====
abbrev S1000000x32 : Shape := ⟨2, ![1000000, 32]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S1000000x32 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  main_v2
-- ==== Kernel.lean ====
abbrev S1000000x32 : Shape := ⟨2, ![1000000, 32]⟩
abbrev S100000 : Shape := ⟨1, ![100000]⟩
abbrev S1000000 : Shape := ⟨1, ![1000000]⟩
abbrev S2000 : Shape := ⟨1, ![2000]⟩
abbrev S31312 : Shape := ⟨1, ![31312]⟩
abbrev S16 : Shape := ⟨1, ![16]⟩
abbrev S_ : Shape := ⟨0, ![]⟩
abbrev S31248 : Shape := ⟨1, ![31248]⟩
abbrev S64 : Shape := ⟨1, ![64]⟩

abbrev nBuf : Table → Nat
  | .hbm => 3
  | .local .scVector .vmem => 2
  | _ => 0

abbrev bufTy : (tb : Table) → Fin (nBuf tb) → BufTy
  | .hbm, ⟨0, _⟩ => ⟨S1000000x32, .f32⟩
  | .hbm, ⟨1, _⟩ => ⟨S100000, .i32⟩
  | .hbm, ⟨2, _⟩ => ⟨S1000000, .i32⟩
  | .local .scVector .vmem, ⟨0, _⟩ => ⟨S2000, .i32⟩
  | .local .scVector .vmem, ⟨1, _⟩ => ⟨S31312, .i32⟩
  | _, _ => ⟨S1000000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c1957_i32 : BitVec 32 := 1957#32
  let v8 : BitVec 32 := Scalar.addi c0_i32_2 c1957_i32
  let c1_i32 : BitVec 32 := 1#32
  ⟨c0_i32_2, v8, c1_i32⟩
def k0_off1 (k0_t1 : Fin k0_t1_loop.trips) : Fin 1 → Nat :=
  let c0_i32_2 : BitVec 32 := 0#32
  let c1_i32 : BitVec 32 := 1#32
  let arg6 : BitVec 32 := Scf.iv c0_i32_2 c1_i32 k0_t1
  let c16_i32 : BitVec 32 := 16#32
  let v12 : BitVec 32 := Scalar.muli arg6 c16_i32
  let v13 : Index := Scalar.indexCast v12
  ![v13.toNat]
@[reducible] def k0_t2_loop : Scf.Loop 32 :=
  let c0_i32_5 : BitVec 32 := 0#32
  let c50_i32 : BitVec 32 := 50#32
  let v9 : BitVec 32 := Scalar.addi c0_i32_5 c50_i32
  let c1_i32_6 : BitVec 32 := 1#32
  ⟨c0_i32_5, v9, c1_i32_6⟩
def k0_off2 (k0_t2 : Fin k0_t2_loop.trips) : Fin 1 → Nat :=
  let c0_i32_5 : BitVec 32 := 0#32
  let c1_i32_6 : BitVec 32 := 1#32
  let arg6 : BitVec 32 := Scf.iv c0_i32_5 c1_i32_6 k0_t2
  let c2000_i32 : BitVec 32 := 2000#32
  let v12 : BitVec 32 := Scalar.muli arg6 c2000_i32
  ![v12.toNat]
@[reducible] def k0_t3_loop : Scf.Loop 32 :=
  let c0_i32_11 : BitVec 32 := 0#32
  let c125_i32 : BitVec 32 := 125#32
  let v14 : BitVec 32 := Scalar.addi c0_i32_11 c125_i32
  let c1_i32_12 : BitVec 32 := 1#32
  ⟨c0_i32_11, v14, c1_i32_12⟩
def k0_off3 (k0_t3 : Fin k0_t3_loop.trips) : Fin 1 → Nat :=
  let c0_i32_11 : BitVec 32 := 0#32
  let c1_i32_12 : BitVec 32 := 1#32
  let arg7 : BitVec 32 := Scf.iv c0_i32_11 c1_i32_12 k0_t3
  let c16_i32 : BitVec 32 := 16#32
  let v15 : BitVec 32 := Scalar.muli arg7 c16_i32
  let v16 : Index := Scalar.indexCast v15
  ![v16.toNat]

def k0_chk1 (v32 : IVec S16 32) : Prop :=
  (∀ a x, ((![v32] : Fin 1 → IVec S16 32) a x).toNat < S31312.size a)
theorem k0_idx1_inb : ∀ (v32 : IVec S16 32) (k0_hw1 : k0_chk1 v32), ∀ a x, ((![v32] : Fin 1 → IVec S16 32) a x).toNat < S31312.size a := fun v32 k0_hw1 => k0_hw1
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v2 : BitVec 32 := Scalar.muli v1 c31248_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x32 : Shape := ⟨2, ![1000000, 32]⟩
abbrev S100000 : Shape := ⟨1, ![100000]⟩
abbrev S_ : Shape := ⟨0, ![]⟩
abbrev S1000000 : Shape := ⟨1, ![1000000]⟩
abbrev S100000x1 : Shape := ⟨2, ![100000, 1]⟩

abbrev nBuf : Space → Nat
  | .hbm => 14
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S100000, .i32⟩
  | .hbm, ⟨2, _⟩ => ⟨S_, .i32⟩
  | .hbm, ⟨3, _⟩ => ⟨S1000000, .i32⟩
  | .hbm, ⟨4, _⟩ => ⟨S100000, .i32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S1000000, .i32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.LastWins.lean ====
/-
  The value both programs compute, as a plain function, and the facts about it that name no program: the last position of a list of
  32-bit ids that names a number (`named`), what one sixteen-lane masked indexed store does to it (`store_step`), and a scatter of
  `M` scalars into a table of `N`, one index word each, read at one entry (`scatter_last`).
-/
module

public import Idealize.ShloMosaic.Lib.LaneScatter.Pure
public import Idealize.ShloMosaic.Lib.Routing.OpsSet
public import Idealize.ShloMosaic.Lib.Routing.OpsPair

@[expose] public section

noncomputable section

namespace Cert.LastWins

open Idealize.ShloMosaic Idealize.ShloMosaic.ValueIdx Idealize.ShloMosaic.Routing Idealize.ShloMosaic.LaneScatter

/-- The last `b < n` whose id is the number `x`, as a 32-bit word; the zero word when there is none. -/
def named (ids : ℕ → BitVec 32) (x n : ℕ) : BitVec 32 :=
  lastHit (fun b => (ids b).toNat = x) (fun b => BitVec.ofNat 32 b) 0#32 n

/-- A vector of `M` words read at any natural number: the zero word from `M` on. -/
def wordAt {M : ℕ} (v : (shape1 M).Idx → BitVec 32) (b : ℕ) : BitVec 32 :=
  if h : b < M then v (ix1 ⟨b, h⟩) else 0#32

/-- Below `M`, `wordAt` is the vector's own word. -/
theorem wordAt_lt {M : ℕ} (v : (shape1 M).Idx → BitVec 32) (b : Fin M) : wordAt v b.val = v (ix1 b) := by
  unfold wordAt
  rw [dif_pos b.isLt]

/-- Hits may be thinned as long as every last hit stays: the value found is the same. -/
theorem lastHit_thin {α : Type} {hit hit' : ℕ → Prop} [DecidablePred hit] [DecidablePred hit'] (val : ℕ → α) (fill : α) {n : ℕ}
    (hsub : ∀ k, k < n → hit' k → hit k) (hlast : ∀ k, k < n → hit k → (∀ j, k < j → j < n → ¬ hit j) → hit' k) :
    lastHit hit' val fill n = lastHit hit val fill n := by
  rcases lastHit_cases hit val fill n with ⟨k, hk, h, hl, e⟩ | ⟨h, e⟩
  · rw [e]
    exact lastHit_of_last val fill (hlast k hk h hl) hk fun j h1 h2 h3 => hl j h1 h2 (hsub j h2 h3)
  · rw [e]
    exact lastHit_of_none val fill fun k hk h' => h k hk (hsub k hk h')

/-- An index of a vector is `ix1` of its one coordinate. -/
theorem exists_ix1 {n : ℕ} (j : (shape1 n).Idx) : ∃ k : Fin n, j = ix1 k :=
  ⟨j 0, funext fun a => match a with | ⟨0, _⟩ => rfl⟩

variable {F : FTy → Type} [FloatOps F]

/-- A rank-one shape's lane `k` is its index `k`. -/
theorem ofLane_eq {n : ℕ} (k : Fin n) : (Shape.ofLane (d := ![n]) k : (shape1 n).Idx) = ix1 k := by
  funext a
  match a with
  | ⟨0, _⟩ => rfl

/-- A masked indexed store of `n` words into a block of `N` words, read at one element: the word of the last set lane that names the
    element, or what was there. -/
theorem storeIdx_at {N n : ℕ} (f : (shape1 N).Idx → BitVec 32) (w v : (shape1 n).Idx → BitVec 32) (mask : (shape1 n).Idx → BitVec 1)
    (h : ∀ (a : Fin 1) x, ((![w] : Fin 1 → IVec (shape1 n) 32) a x).toNat < (shape1 N).size a) (j : (shape1 N).Idx)
    (hit : ℕ → Prop) [DecidablePred hit] (val : ℕ → BitVec 32)
    (hh : ∀ k : Fin n, (mask (ix1 k) = 1 ∧ (j 0).val = (w (ix1 k)).toNat) ↔ hit k.val) (hv : ∀ k : Fin n, v (ix1 k) = val k.val) :
    (storeIdx (F := F) (s := shape1 N) (e := .i32) (d := ![n]) f ![w] v mask false h : (shape1 N).Idx → BitVec 32) j
      = lastHit hit val (f j) n := by
  unfold storeIdx
  rw [← foldl_finRange_lastHit]
  refine (List.foldl_hom (fun g : (shape1 N).Idx → BitVec 32 => g j) fun g k => ?_).symm
  generalize hx : (Shape.ofLane k : (shape1 n).Idx) = x
  obtain rfl : x = ix1 (n := n) k := hx.symm.trans (ofLane_eq k)
  change Fin n at k
  by_cases hm : mask (ix1 k) = 1
  · rw [if_pos hm]
    have e : (∀ a, (j a).val = ((idxAt ![w] h (ix1 k)) a).val) ↔ hit k.val := by
      rw [← hh k]
      constructor
      · intro q; exact ⟨hm, q 0⟩
      · intro q a
        match a with
        | ⟨0, _⟩ => exact q.2
    by_cases hk : hit k.val
    · rw [if_pos hk, if_pos (e.2 hk)]
      exact (hv k).symm
    · rw [if_neg hk, if_neg fun q => hk (e.1 q)]
  · rw [if_neg hm, if_neg fun q => hm ((hh k).2 q).1]

/-- One sixteen-lane step of a tile that owns the numbers from `lo` to `hi - 1`. The lanes hold ids `base` to `base + 15`; a lane is set
    when its id is one of the tile's and no later lane has the same id; a set lane names its id's place in the tile, and stores its
    own position. An element that held the last position before `base` naming its number holds, after the store, the last before
    `base + 16`. -/
theorem store_step {N : ℕ} (ids : ℕ → BitVec 32) (lo hi base : ℕ) (f : (shape1 N).Idx → BitVec 32) (u w v : (shape1 16).Idx → BitVec 32)
    (mask : (shape1 16).Idx → BitVec 1)
    (h : ∀ (a : Fin 1) x, ((![w] : Fin 1 → IVec (shape1 16) 32) a x).toNat < (shape1 N).size a)
    (hu : ∀ k : Fin 16, u (ix1 k) = ids (base + k.val))
    (hmask : ∀ k : Fin 16, mask (ix1 k) = 1 ↔ (lo ≤ (u (ix1 k)).toNat ∧ (u (ix1 k)).toNat < hi) ∧ ∀ l : Fin 16, k < l → u (ix1 l) ≠ u (ix1 k))
    (hw : ∀ k : Fin 16, mask (ix1 k) = 1 → (w (ix1 k)).toNat = (u (ix1 k)).toNat - lo)
    (hv : ∀ k : Fin 16, v (ix1 k) = BitVec.ofNat 32 (base + k.val))
    (j : (shape1 N).Idx) (hj : lo + (j 0).val < hi) (hf : f j = named ids (lo + (j 0).val) base) :
    (storeIdx (F := F) (s := shape1 N) (e := .i32) (d := ![16]) f ![w] v mask false h : (shape1 N).Idx → BitVec 32) j
      = named ids (lo + (j 0).val) (base + 16) := by
  classical
  rw [storeIdx_at f w v mask h j (fun k => ∃ hk : k < 16, mask (ix1 ⟨k, hk⟩) = 1 ∧ (j 0).val = (w (ix1 ⟨k, hk⟩)).toNat)
    (fun k => BitVec.ofNat 32 (base + k)) (fun k => ⟨fun q => ⟨k.isLt, q⟩, fun ⟨_, q⟩ => q⟩) hv, hf]
  unfold named
  rw [lastHit_add]
  refine lastHit_thin _ _ (fun k hk q => ?_) (fun k hk q hl => ?_)
  · obtain ⟨_, hm, hj'⟩ := q
    rw [hw _ hm] at hj'
    have := ((hmask _).1 hm).1
    rw [hu] at this hj'
    show (ids (base + k)).toNat = _
    dsimp only at this hj'
    omega
  · have q' : (ids (base + k)).toNat = lo + (j 0).val := q
    have hm : mask (ix1 ⟨k, hk⟩) = 1 := (hmask _).2 ⟨by rw [hu]; dsimp only; omega, fun l hkl e => by
      rw [hu, hu] at e
      exact hl l.val hkl l.isLt (by show (ids (base + l.val)).toNat = _; rw [e]; exact q')⟩
    refine ⟨hk, hm, ?_⟩
    rw [hw _ hm, hu]
    dsimp only
    omega

/-- Update `i` of a scatter of `M` scalars into a table of `N`, one index word each, lands at entry `x` exactly when its word, read
    signed, is `x`. -/
theorem lands {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hm : (0 : Fin 1) ∈ d.scatterDimsToOperandDims := hsd ▸ List.mem_singleton.2 rfl
  -- the table's one axis has no window coordinate
  have hwin : d.window (ix1 i) 0 = 0 :=
    dif_neg fun h => (of_decide_eq_true (List.mem_filter.1 h).2) (hiw ▸ List.mem_singleton.2 rfl)
  -- the update's index vector is row `i` of the one-column array
  have hrow : d.siIdx (ix1 i) ⟨d.scatterDimsToOperandDims.idxOf 0, List.idxOf_lt_length_iff.2 hm⟩ = ix2 i (0 : Fin 1) := by
    have one : ∀ X : Fin 1, (ix1 i X).val = i.val := fun X => by
      rw [Subsingleton.elim X 0]
    funext b
    refine Fin.ext ?_
    match b with
    | ⟨0, _⟩ =>
      unfold ScatterDims.siIdx
      rw [dif_neg (by rw [hivd]; exact Nat.zero_ne_one)]
      unfold ScatterDims.siCoord
      exact one _
    | ⟨1, _⟩ =>
      unfold ScatterDims.siIdx
      rw [dif_pos hivd.symm]
      show List.idxOf (0 : Fin 1) d.scatterDimsToOperandDims = 0
      rw [hsd]; rfl
  have hstart : d.start (ix1 i) idx 0 = (idx (ix2 i (0 : Fin 1))).toInt := by
    unfold ScatterDims.start
    rw [dif_pos hm, hrow]
  rw [resultIdx?_ix1, hstart, hwin]
  omega

/-- A scatter that replaces entries of a table of `N` by `M` scalars, one index word each, read at entry `x`: the last update whose
    word, read signed, is `x`, or the table's own entry. -/
theorem scatter_last {α : Type} {N M : ℕ} (d : ScatterDims (shape1 N) (shape2 M 1) (shape1 M)) (hiw : d.insertedWindowDims = [0])
    (hsd : d.scatterDimsToOperandDims = [0]) (hivd : d.indexVectorDim = 1) (x0 : (shape1 N).Idx → α) (idx : IVec (shape2 M 1) 32)
    (upd : (shape1 M).Idx → α) (x : Fin N) (hit : ℕ → Prop) [DecidablePred hit] (val : ℕ → α)
    (hh : ∀ i : Fin M, (idx (ix2 i (0 : Fin 1))).toInt = (x.val : Int) ↔ hit i.val) (hv : ∀ i : Fin M, upd (ix1 i) = val i.val) :
    Host.scatter d (fun _ b => b) x0 idx upd (ix1 x) = lastHit hit val (x0 (ix1 x)) M := by
  rw [scatter_at, ← foldl_finRange_lastHit]
  -- row-major positions of a vector are its own indices
  have cast : ∀ (K : ℕ) (hK : K = M) (g : α → Fin K → α) (g' : α → Fin M → α), (∀ a n, g a n = g' a (n.cast hK)) →
      ∀ a, (List.finRange K).foldl g a = (List.finRange M).foldl g' a := by
    intro K hK g g' hg a
    subst hK
    exact congrArg (fun p => (List.finRange K).foldl p a) (funext fun a => funext fun n => hg a n)
  refine cast _ (numel1 M) _ _ (fun a n => ?_) _
  rw [symm1, hv]
  exact if_congr ((lands d hiw hsd hivd idx _ x).trans (hh _)) rfl rfl

end Cert.LastWins

end
-- ==== Proof.KernelIdeal.Words.lean ====
/-
  The words a tile of the program computes, as numbers: where its range of rows starts and ends, which lanes of a vector of ids it
  stores from, where, and what.
-/
module

public import proofs.«01_k».proof.Proof.Gen.KernelIdeal.Skeleton
public import proofs.«01_k».proof.Proof.LastWins
public import Idealize.ShloMosaic.Lib.WordCmp

@[expose] public section

noncomputable section

namespace Cert.KernelIdeal.Words

open Cert.KernelIdeal Cert.KernelIdeal.Gen Idealize.ShloMosaic Idealize.ShloMosaic.ValueIdx

variable {F : FTy → Type} [FloatOps F]

/-- The tile with the highest number: the one whose range reaches the end of the table. -/
abbrev IsLast (i : grid0.Coords) : Prop := (i 0).val = 1 ∧ (i 1).val = 15

/-- The first row of the tile at `i`. -/
def lo (i : grid0.Coords) : ℕ := 62496 * (i 1).val + 31248 * (i 0).val

/-- The row after the last one of the tile at `i`. -/
def hi (i : grid0.Coords) : ℕ := if IsLast i then 1000000 else lo i + 31248

/-- A tile's range starts inside the table's first 999936 rows less a block. -/
theorem lo_le (i : grid0.Coords) : lo i ≤ 968688 := by
  have h0 : (i 0).val < 2 := (i 0).isLt
  have h1 : (i 1).val < 16 := (i 1).isLt
  unfold lo; omega

/-- A range ends inside the table. -/
theorem hi_le (i : grid0.Coords) : hi i ≤ 1000000 := by
  have := lo_le i
  unfold hi
  split <;> omega

/-- A range fits in the tile's buffer. -/
theorem hi_le_lo (i : grid0.Coords) : hi i ≤ lo i + 31312 := by
  unfold hi
  split
  · next h => unfold lo; rw [h.1, h.2]
  · omega

/-- A range holds at least a block of 31248 rows. -/
theorem lo_le_hi (i : grid0.Coords) : lo i + 31248 ≤ hi i := by
  have := lo_le i
  unfold hi
  split <;> omega

/-- The last tile's range is its block and the 64 rows at the table's end. -/
theorem last_lo {i : grid0.Coords} (h : IsLast i) : lo i = 968688 := by
  unfold lo; rw [h.1, h.2]

/-- The word the kernel computes for a range's start. -/
def loWord (i : grid0.Coords) : BitVec 32 :=
  Scalar.muli (Scalar.addi (Scalar.muli (BitVec.ofNat 32 (i 1).val) 2#32) (BitVec.ofNat 32 (i 0).val)) 31248#32

/-- The word the kernel computes for a range's end. -/
def hiWord (i : grid0.Coords) : BitVec 32 :=
  Scalar.select (Scalar.cmpi .eq (Scalar.addi (Scalar.muli (BitVec.ofNat 32 (i 1).val) 2#32) (BitVec.ofNat 32 (i 0).val)) 31#32)
    1000000#32 (Scalar.addi (loWord i) 31248#32)

/-- The start's word is the start. -/
theorem loWord_eq : ∀ i : grid0.Coords, loWord i = BitVec.ofNat 32 (lo i) := by decide +kernel

/-- The end's word is the end. -/
theorem hiWord_eq : ∀ i : grid0.Coords, hiWord i = BitVec.ofNat 32 (hi i) := by decide +kernel

/-- The condition of the kernel's last copy holds at the last tile alone. -/
theorem last_cond : ∀ i : grid0.Coords,
    (Scalar.cmpi .ne (Scalar.extui (Scalar.cmpi .eq (Scalar.addi (Scalar.muli (BitVec.ofNat 32 (i 1).val) 2#32) (BitVec.ofNat 32 (i 0).val)) 31#32) : BitVec 32) 0#32
      = 1#1) ↔ IsLast i := by decide +kernel

/-- A word between two small numbers, compared signed: the same as comparing its number. -/
theorem between (w : BitVec 32) (a b : ℕ) (ha : a < 2 ^ 31) (hb : b < 2 ^ 31) :
    IntOp.andi (IntOp.cmpi .sge w (BitVec.ofNat 32 a)) (IntOp.cmpi .slt w (BitVec.ofNat 32 b)) = 1#1 ↔ a ≤ w.toNat ∧ w.toNat < b := by
  rw [WordCmp.cmpi_sge_eq, WordCmp.cmpi_slt_eq, WordCmp.andi_ofBool, WordCmp.ofBool_eq_one_iff, Bool.and_eq_true, decide_eq_true_iff,
    decide_eq_true_iff, WordCmp.toInt_ofNat_of_lt ha, WordCmp.toInt_ofNat_of_lt hb, BitVec.toInt_eq_toNat_cond]
  have := w.isLt
  split <;> omega

/-- A lane of `scan_count`'s first result under the all-ones mask: set when no later lane holds the same word. -/
theorem scan_lane (v : IVec S16 32) (k : Fin 16) :
    (scanCount (broadcast S16 1#1) v).1 (ix1 k) = 1#1 ↔ ∀ l : Fin 16, k < l → v (ix1 l) ≠ v (ix1 k) := by
  have e : (scanCount (broadcast S16 1#1) v).1 (ix1 k) = 1#1 ↔
      ((broadcast S16 1#1 : IVec S16 1) (ix1 k) = 1 ∧ ∀ j : S16.Idx, (S16.rowMajor (ix1 k)).val < (S16.rowMajor j).val →
        ¬((broadcast S16 1#1 : IVec S16 1) j = 1 ∧ v j = v (ix1 k))) := by
    unfold scanCount
    dsimp only
    split <;> simp_all
  rw [e]
  constructor
  · intro h l hl q
    refine h.2 (ix1 l) ?_ ⟨rfl, q⟩
    rw [Shape.rowMajor_val_one, Shape.rowMajor_val_one]
    exact hl
  · intro h
    refine ⟨rfl, fun j hj q => ?_⟩
    obtain ⟨l, rfl⟩ := LastWins.exists_ix1 j
    rw [Shape.rowMajor_val_one, Shape.rowMajor_val_one] at hj
    exact h l hj q.2

/-- The store's mask: a lane is set when its id is in the tile's range and no later lane holds the same id. -/
theorem mask_lane (i : grid0.Coords) (v : Vec F S16 .i32) (k : Fin 16) :
    k0_pay3 (F := F) i v (ix1 k) = 1 ↔
      (lo i ≤ (v (ix1 k) : BitVec 32).toNat ∧ (v (ix1 k) : BitVec 32).toNat < hi i) ∧ ∀ l : Fin 16, k < l → (v (ix1 l) : BitVec 32) ≠ v (ix1 k) := by
  have h1 := lo_le i
  have h2 := hi_le i
  rw [← scan_lane v k, ← between (v (ix1 k)) (lo i) (hi i) (by omega) (by omega), ← loWord_eq, ← hiWord_eq]
  show IntOp.andi (IntOp.andi (IntOp.cmpi .sge (v (ix1 k)) (loWord i)) (IntOp.cmpi .slt (v (ix1 k)) (hiWord i)))
    ((scanCount (broadcast S16 1#1) v).1 (ix1 k)) = 1#1 ↔ _
  generalize IntOp.andi (IntOp.cmpi .sge (v (ix1 k)) (loWord i)) (IntOp.cmpi .slt (v (ix1 k)) (hiWord i)) = a
  generalize (scanCount (broadcast S16 1#1) v).1 (ix1 k) = b
  unfold IntOp.andi
  revert a b
  decide

/-- The store's index at a set lane: the id's place in the tile's range. -/
theorem place_lane (i : grid0.Coords) (v : Vec F S16 .i32) (k : Fin 16) (h : k0_pay3 (F := F) i v (ix1 k) = 1) :
    (k0_pay4 (F := F) i v (ix1 k)).toNat = (v (ix1 k) : BitVec 32).toNat - lo i := by
  have hr := ((mask_lane i v k).1 h).1
  have h1 := lo_le i
  have e : k0_pay4 (F := F) i v (ix1 k) = (v (ix1 k) : BitVec 32) - BitVec.ofNat 32 (lo i) := by
    rw [← loWord_eq]
    exact if_pos h
  rw [e, BitVec.toNat_sub, BitVec.toNat_ofNat]
  have := (v (ix1 k) : BitVec 32).isLt
  omega

/-- Every lane of the store's index is inside the tile's buffer. -/
theorem place_inb (i : grid0.Coords) (v : Vec F S16 .i32) : k0_chk1 (k0_pay4 (F := F) i v) := by
  intro a x
  obtain rfl : a = 0 := Subsingleton.elim _ _
  obtain ⟨l, rfl⟩ := LastWins.exists_ix1 x
  show (k0_pay4 (F := F) i v (ix1 l)).toNat < 31312
  by_cases h : k0_pay3 (F := F) i v (ix1 l) = 1
  · rw [place_lane i v _ h]
    have := ((mask_lane i v _).1 h).1
    have := hi_le_lo i
    omega
  · have e : k0_pay4 (F := F) i v (ix1 l) = 0#32 := if_neg h
    rw [e]
    decide

/-- The stored words: a lane's own position in the list of ids. -/
theorem value_lane (t2 : Fin k0_t2_loop.trips) (t3 : Fin k0_t3_loop.trips) (k : Fin 16) :
    k0_pay2 t2 t3 (ix1 k) = BitVec.ofNat 32 (2000 * t2.val + 16 * t3.val + k.val) := by
  show BitVec.ofNat 32 (0 * 16 + k.val) + (((0#32 + BitVec.ofNat 32 t2.val * 1#32) * 2000#32) + ((0#32 + BitVec.ofNat 32 t3.val * 1#32) * 16#32)) = _
  refine BitVec.eq_of_toNat_eq ?_
  simp only [BitVec.toNat_add, BitVec.toNat_mul, BitVec.toNat_ofNat]
  have e2 : t2.val < 50 := Nat.lt_of_lt_of_eq t2.isLt (by decide)
  have e3 : t3.val < 125 := Nat.lt_of_lt_of_eq t3.isLt (by decide)
  have := k.isLt
  omega

end Cert.KernelIdeal.Words

end
-- ==== Proof.KernelIdeal.Tile.lean ====
/-
  One tile of the program, run from what the launch deals it: a share of the ids, its rows of the result, its two buffers and its
  three cells. The tile clears its buffer, reads the ids in fifty chunks, and after `n` of them its buffer holds, at every row of
  its range, the last of the first `n` ids that names the row. It then writes its range out.
-/
module

public import proofs.«01_k».proof.Proof.KernelIdeal.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.VecWindow
public import Idealize.ShloMosaic.Lib.Tactic

@[expose] public section

noncomputable section

namespace Cert.KernelIdeal.Tile

open Cert.KernelIdeal Cert.KernelIdeal.Gen Cert.KernelIdeal.Words

open Idealize.ShloMosaic Idealize.ShloMosaic.ValueIdx Idealize.ShloMosaic.Routing Idealize.ShloMosaic.LaneScatter
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

/-- The labels of the program's calls. -/
abbrev ΛP : Labels := Pipeline.Sig Λ₀ (Fin 0) fun p => (pcfgs (F := F) p).Adm
/-- The program's one launch. -/
abbrev K : SparseCore.Cfg τ sig (ΛP (F := F)) 1 := sc (F := F)
/-- The bodies the launch runs. -/
abbrev D [FloatOps F] : Defs nD τ sig (Elt F) (ΛP (F := F)) := Pipeline.defs pcfgs defs₀
/-- No loop of the program needs a variant. -/
abbrev 𝒱₀ : Variants := Variants.none
/-- The same over the launch's labels. -/
abbrev 𝒱 : Variants := 𝒱₀.lift
/-- The launch's own variant. -/
abbrev v₀ : 𝒱.V := Sum.inl none

/-- The launch's ghost state: its handshakes' rounds and the copies' counters. -/
abbrev UU : Type := URounds (GSem nD τ sig) ℕ × Counters

local notation "𝕄" => MT nD τ sig (HIx 1) (Elt F) ℕ UU ℕ

/-! ## The arrays, and what the tiles leave in them -/

variable (m : (ℓ : Loc nD τ sig) → Buf (Elt F) ℓ) (d : Dev nD)

/-- The table, which the program never reads. -/
abbrev tLoc (d : Dev nD) : Loc nD τ sig := (SparseCore.T d).loc main_arg0
/-- The ids. -/
abbrev iLoc (d : Dev nD) : Loc nD τ sig := (SparseCore.T d).loc main_arg1
/-- The result. -/
abbrev oLoc (d : Dev nD) : Loc nD τ sig := (SparseCore.T d).loc main_v0

/-- The ids, whole, as a tile names them. -/
abbrev iV : Memref Cert.KernelIdeal.sig Kind.scVector Space.hbm Cert.KernelIdeal.S100000 EltTy.i32 := Memref.whole Cert.KernelIdeal.main_arg1_scv
/-- The result, whole, as a tile names it. -/
abbrev oV : Memref Cert.KernelIdeal.sig Kind.scVector Space.hbm Cert.KernelIdeal.S1000000 EltTy.i32 := Memref.whole Cert.KernelIdeal.main_v0_scv
/-- A tile's buffer of ids, whole. -/
abbrev bV : Memref Cert.KernelIdeal.sig Kind.scVector Space.vmem Cert.KernelIdeal.S2000 EltTy.i32 := Memref.whole Cert.KernelIdeal.cc0_scratch0
/-- A tile's buffer of rows, whole. -/
abbrev lV : Memref Cert.KernelIdeal.sig Kind.scVector Space.vmem Cert.KernelIdeal.S31312 EltTy.i32 := Memref.whole Cert.KernelIdeal.cc0_scratch1

/-- Word `b` of the ids at the launch. -/
def ids (b : ℕ) : BitVec 32 := LastWins.wordAt (M := 100000) (m (iLoc d)) b

/-- At every row the last place of the first `n` ids that names it, zero where none does. -/
def named (n : ℕ) : Buf (Elt F) (oLoc d) := fun j : S1000000.Idx => LastWins.named (ids m d) (j 0).val n

/-- The result: at every row the last place of the ids that names it, zero where none does. -/
def OUT : Buf (Elt F) (oLoc d) := named m d 100000

section Tile

variable (L : grid0.Coords)

/-- The thread of the tile at `L`. -/
abbrev VT : Thread nD τ := V d ((L 0).castLE hcore0) ((L 1).castLE hsub0)

/-- The tile's buffer of rows holds, at every row of the tile's range, the last of the first `n` ids that names it. -/
def Holds (n : ℕ) (g : S31312.Idx → BitVec 32) : Prop :=
  ∀ j : S31312.Idx, lo L + (j 0).val < hi L → g j = LastWins.named (ids m d) (lo L + (j 0).val) n

/-- The tile's buffer of ids holds chunk `t`. -/
def Chunk (t : ℕ) (b : S2000.Idx → BitVec 32) : Prop := ∀ k : Fin 2000, b (ix1 k) = ids m d (2000 * t + k.val)

variable [FloatOps F]

/-! ## One vector of ids -/

omit [FloatOps F] in
/-- The buffer of rows, as a store at places reads and writes it, is the buffer. -/
theorem pts_rows_whole (f : Buf (Elt F) ((lV).view.loc (VT d L))) :
    (((lV).access (.whole S31312)).loc (VT d L) ↦[((lV).access (.whole S31312)).set]{fullShare} f : sProp 𝕄)
      = ((lV).view.loc (VT d L) ↦{fullShare} f) := by
  rw [show ((lV).access (.whole S31312)).set = Finset.univ from Memref.set_access_whole (cc0_scratch1 : Ref sig .scVector)]

omit [FloatOps F] in
/-- A vector read from a buffer that holds a chunk is sixteen ids in a row. -/
theorem chunk_read (t2 : Fin k0_t2_loop.trips) (t3 : Fin k0_t3_loop.trips) (b : Buf (Elt F) ((bV).view.loc (VT d L)))
    (hb : Chunk m d t2.val b) (k : Fin 16) :
    View.readAt (Elt F) (bV).view (Rect.unit (s := S2000) (k0_off3 t3) S16.size (k0_off3_inb t3)).toLoadRect b (ix1 k)
      = ids m d (2000 * t2.val + 16 * t3.val + k.val) := by
  have ht : t3.val < 125 := Nat.lt_of_lt_of_eq t3.isLt (by decide)
  have e : View.readAt (Elt F) (bV).view (Rect.unit (s := S2000) (k0_off3 t3) S16.size (k0_off3_inb t3)).toLoadRect b (ix1 k)
      = b (ix1 (⟨16 * t3.val + k.val, by omega⟩ : Fin 2000)) := by
    rw [View.readAt_unit (Val := Elt F) (bV).view b (k0_off3_inb t3) (k0_off3_eq t3) (k0_off3_eq t3 ▸ k0_off3_inb t3)]
    refine congrArg b (funext fun a => Fin.ext ?_)
    obtain rfl : a = (0 : Fin 1) := Subsingleton.elim (α := Fin 1) _ _
    show 16 * t3.val + 1 * k.val = 16 * t3.val + k.val
    omega
  rw [e, hb, Nat.add_assoc]

/-- A vector of ids stored from: a buffer of rows that held the ids before it holds the vector's too. -/
theorem holds_step (t2 : Fin k0_t2_loop.trips) (t3 : Fin k0_t3_loop.trips) (u : Vec F S16 .i32)
    (hu : ∀ k : Fin 16, u (ix1 k) = ids m d (2000 * t2.val + 16 * t3.val + k.val)) (g : S31312.Idx → BitVec 32)
    (hg : Holds m d L (2000 * t2.val + 16 * t3.val) g) (h) :
    Holds m d L (2000 * t2.val + 16 * (t3.val + 1))
      (storeIdx (F := F) (s := S31312) (e := .i32) (d := ![16]) g ![k0_pay4 (F := F) L u] (k0_pay2 t2 t3) (k0_pay3 (F := F) L u) false h) := by
  intro j hj
  rw [show 2000 * t2.val + 16 * (t3.val + 1) = 2000 * t2.val + 16 * t3.val + 16 by omega]
  exact LastWins.store_step (F := F) (ids m d) (lo L) (hi L) (2000 * t2.val + 16 * t3.val) g u (k0_pay4 (F := F) L u) (k0_pay2 t2 t3)
    (k0_pay3 (F := F) L u) h hu (mask_lane L u) (place_lane L u) (value_lane t2 t3) j hj (hg j hj)

/-- One vector of ids read and stored from: a buffer of rows that held the ids before it holds the vector's too. -/
theorem vec_step (t2 : Fin k0_t2_loop.trips) (t3 : Fin k0_t3_loop.trips) (b : Buf (Elt F) ((bV).view.loc (VT d L)))
    (g : Buf (Elt F) ((lV).view.loc (VT d L))) (hb : Chunk m d t2.val b) (hg : Holds m d L (2000 * t2.val + 16 * t3.val) g) :
    (iprop(((bV).view.loc (VT d L) ↦{fullShare} b) ∗ ((lV).view.loc (VT d L) ↦{fullShare} g)) : sProp 𝕄)
      ⊢ wp frame (wpE (defs₀ (F := F)) 𝒱₀ (VT d L) none) Set.univ
          (k0_t3_body L iV (Memref.isWhole_whole _) oV (Memref.isWhole_whole _) bV (Memref.isWhole_whole _) lV (Memref.isWhole_whole _)
            cc0_scoped0 cc0_scoped1 cc0_scoped2 t2 t3 ⟨⟩)
          fun _ => iprop(((bV).view.loc (VT d L) ↦{fullShare} b)
            ∗ ∃ g' : Buf (Elt F) ((lV).view.loc (VT d L)), ⌜Holds m d L (2000 * t2.val + 16 * (t3.val + 1)) g'⌝ ∗ ((lV).view.loc (VT d L) ↦{fullShare} g')) := by
  unfold k0_t3_body
  iintro ⟨Hb, Hl⟩
  sl_exec (disch := exact place_inb (F := F) L _)
  ihave Hl' := (Entails.of_eq (pts_rows_whole (F := F) d L g).symm) $$ Hl
  iapply (SparseCore.wp_vectorStoreIdx 𝒱₀ (VT d L) none Set.univ (base := (lV : Memref sig .scVector .vmem S31312 .i32))) $$ Hl'
  iintro Hl'
  ihave Hl := (Entails.of_eq (pts_rows_whole (F := F) d L _)) $$ Hl'
  sl_step
  isplitl [Hb]; · iexact Hb
  iexists _
  isplitr
  rotate_left
  · iexact Hl
  ipureintro
  have key := fun h => holds_step (F := F) m d L t2 t3 _ (chunk_read m d L t2 t3 b hb) g hg h
  have hw : ∀ w, View.write (Elt F) ((lV).access (.whole S31312)) g w Finset.univ = w :=
    fun w => Memref.write_access_whole_univ (Elt F) (cc0_scratch1 : Ref sig .scVector) g w
  have hr : View.read (Elt F) ((lV).access (.whole S31312)) g = g := Memref.read_access_whole (Elt F) (cc0_scratch1 : Ref sig .scVector) g
  rw [hw, hr]
  exact key _

/-! ## A chunk of ids -/

omit [FloatOps F] in
/-- What a fetch leaves in the chunks' buffer is the chunk. -/
theorem chunk_fetched (t2 : Fin k0_t2_loop.trips) (b : Buf (Elt F) ((bV).view.loc (VT d L))) :
    Chunk m d t2.val (View.write (Elt F) (bV).view b
      (View.read (Elt F) ((iV).slice (Rect.unit (s := S100000) (k0_off2 t2) S2000.size (k0_off2_inb t2)) (fun _ => rfl)).view (m (iLoc d))) Finset.univ) := by
  intro k
  have ht : t2.val < 50 := Nat.lt_of_lt_of_eq t2.isLt (by decide)
  rw [View.write_whole_univ]
  have e := LastWins.wordAt_lt (M := 100000) (m (iLoc d)) ⟨2000 * t2.val + k.val, by omega⟩
  refine Eq.trans (congrArg (m (iLoc d)) (funext fun a => Fin.ext ?_)) e.symm
  obtain rfl : a = (0 : Fin 1) := Subsingleton.elim (α := Fin 1) _ _
  show (k0_off2 t2) 0 + 1 * k.val = 2000 * t2.val + k.val
  rw [k0_off2_eq]
  show 2000 * t2.val + 1 * k.val = 2000 * t2.val + k.val
  omega

/-- Between two vectors of chunk `t`: the chunk's buffer, and the buffer of rows with the ids so far. -/
def vecInv (t : ℕ) (b : Buf (Elt F) ((bV).view.loc (VT d L))) (k : ℕ) (_ : PUnit) : sProp 𝕄 :=
  iprop(((bV).view.loc (VT d L) ↦{fullShare} b)
    ∗ ∃ g : Buf (Elt F) ((lV).view.loc (VT d L)), ⌜Holds m d L (2000 * t + 16 * k) g⌝ ∗ ((lV).view.loc (VT d L) ↦{fullShare} g))

/-- Between two chunks: a share of the ids, the chunks' buffer, the buffer of rows with the ids so far, and the fetch's cell at zero. -/
def chunkInv (q : PosShare TreeShare) (O : CellTallies nD τ sig (HIx 1)) (k : ℕ) (_ : PUnit) : sProp 𝕄 :=
  iprop(Transfers.MayWaits (VT d L) (default : HIx 1) O
    ∗ ((iV).view.loc (VT d L) ↦{q} m (iLoc d))
    ∗ (∃ b, (bV).view.loc (VT d L) ↦{fullShare} b)
    ∗ (∃ g : Buf (Elt F) ((lV).view.loc (VT d L)), ⌜Holds m d L (2000 * k) g⌝ ∗ ((lV).view.loc (VT d L) ↦{fullShare} g))
    ∗ semVal (VT d L, SemLoc.dma cc0_scoped0.sem) 0
    ∗ ∃ W', owes (VT d L) O W')

/-- One chunk of ids fetched and stored from. -/
theorem chunk_step (q : PosShare TreeShare) (O : CellTallies nD τ sig (HIx 1)) (t2 : Fin k0_t2_loop.trips) :
    chunkInv m d L q O t2.val ⟨⟩
      ⊢ wp frame (wpE (defs₀ (F := F)) 𝒱₀ (VT d L) none) Set.univ
          (k0_t2_body L iV (Memref.isWhole_whole _) oV (Memref.isWhole_whole _) bV (Memref.isWhole_whole _) lV (Memref.isWhole_whole _)
            cc0_scoped0 cc0_scoped1 cc0_scoped2 t2 ⟨⟩)
          fun _ => chunkInv m d L q O (t2.val + 1) ⟨⟩ := by
  unfold k0_t2_body chunkInv
  iintro ⟨#Hmw, Hi, ⟨%b0, Hb⟩, ⟨%g, %hg, Hl⟩, Hs, ⟨%W, HO⟩⟩
  sl_exec (disch := exact View.amount_pos _ _ (show 0 < S2000.numel by decide))
  have hch := chunk_fetched m d L t2 b0
  sl_for (vecInv m d L t2.val (View.write (Elt F) (bV).view b0 (chunk_step.sl.dma0 m d t2) Finset.univ)) $$ [Hb Hl]
  case region =>
    intro k _
    unfold vecInv
    iintro ⟨Hb, ⟨%g', %hg', Hl⟩⟩
    iapply (vec_step m d L t2 k _ g' hch hg')
    isplitl [Hb]; · iexact Hb
    iexact Hl
  · unfold vecInv
    isplitl [Hb]; · iexact Hb
    iexists g
    isplitr; · ipureintro; exact hg
    iexact Hl
  iintro %_ HI
  unfold vecInv
  icases HI with ⟨Hb, ⟨%g', %hg', Hl⟩⟩
  sl_step
  isplitr; · iexact Hmw
  isplitl [Hi]; · iexact Hi
  isplitl [Hb]; · iexists _; iexact Hb
  isplitl [Hl]
  · iexists g'
    isplitr
    · ipureintro
      rw [show 2000 * (t2.val + 1) = 2000 * t2.val + 16 * k0_t3_loop.trips by
        rw [show k0_t3_loop.trips = 125 by decide]; omega]
      exact hg'
    · iexact Hl
  isplitl [Hs]; · iexact Hs
  iexists _; iexact HO

/-! ## The buffer cleared -/

/-- Between two vectors of the clearing: the rows before the vector's are zero. -/
def clearInv (k : ℕ) (_ : PUnit) : sProp 𝕄 :=
  iprop(∃ g : Buf (Elt F) ((lV).view.loc (VT d L)), ⌜∀ j : S31312.Idx, (j 0).val < 16 * k → (g j : BitVec 32) = 0#32⌝ ∗ ((lV).view.loc (VT d L) ↦{fullShare} g))

omit [FloatOps F] in
/-- A vector of zeros stored past zeros. -/
theorem cleared_step (t : Fin k0_t1_loop.trips) (g : Buf (Elt F) ((lV).view.loc (VT d L)))
    (hg : ∀ j : S31312.Idx, (j 0).val < 16 * t.val → (g j : BitVec 32) = 0#32) (j : S31312.Idx) (hj : (j 0).val < 16 * (t.val + 1)) :
    (View.read (Elt F) (lV).view (View.writes (lV).view (Elt F) g [⟨Rect.unit (s := S31312) (k0_off1 t) S16.size (k0_off1_inb t), k0_pay1⟩]) j : BitVec 32) = 0#32 := by
  rw [View.read_writes_cons_unit (Val := Elt F) (lV).view g (k0_off1_inb t) _ [] j (k0_off1_eq t)]
  split
  · rfl
  · next h =>
    refine hg j (Nat.lt_of_not_le fun hle => h fun a => ?_)
    obtain rfl : a = (0 : Fin 1) := Subsingleton.elim (α := Fin 1) _ _
    exact ⟨hle, by show (j 0).val < 16 * t.val + 16; omega⟩

/-- One vector of zeros stored. -/
theorem clear_step (t : Fin k0_t1_loop.trips) :
    (clearInv d L t.val ⟨⟩ : sProp 𝕄)
      ⊢ wp frame (wpE (defs₀ (F := F)) 𝒱₀ (VT d L) none) Set.univ
          (k0_t1_body L iV (Memref.isWhole_whole _) oV (Memref.isWhole_whole _) bV (Memref.isWhole_whole _) lV (Memref.isWhole_whole _)
            cc0_scoped0 cc0_scoped1 cc0_scoped2 t ⟨⟩)
          fun _ => clearInv d L (t.val + 1) ⟨⟩ := by
  unfold k0_t1_body clearInv
  iintro ⟨%g, %hg, Hl⟩
  sl_exec
  sl_step
  iexists _
  isplitr
  rotate_left
  · iexact Hl
  ipureintro
  exact cleared_step d L t g hg

/-! ## The rows written out -/

/-- The tile's block of the result, as its first copy out names it. -/
abbrev oBlk : Memref sig .scVector .hbm S31248 .i32 :=
  (oV).slice (Rect.unit (s := S1000000) (k0_off4 L) S31248.size (k0_off4_inb L)) (fun _ => rfl)
/-- The end of the result, as the last tile's second copy out names it. -/
abbrev oTail : Memref sig .scVector .hbm S64 .i32 :=
  (oV).slice (Rect.unit (s := S1000000) ![999936] S64.size inb_S1000000_S64_999936) (fun _ => rfl)

omit [FloatOps F] in
/-- A view written whole holds, at its elements, what it was written from. -/
theorem pts_write_whole {sp : Space} {s : Shape} {e : EltTy} (v : View sig .scVector sp s e) (f g : Buf (Elt F) (v.loc (VT d L)))
    (w : s.Idx → Elt F e) (hg : ∀ y, w y = v.read (Elt F) g y) :
    (v.loc (VT d L) ↦[v.set]{fullShare} v.writes (Elt F) f [⟨Rect.whole s, w⟩] : sProp 𝕄) = (v.loc (VT d L) ↦[v.set]{fullShare} g) := by
  refine pointsTo_congr fun i hi => ?_
  obtain ⟨y, -, rfl⟩ := Finset.mem_map.mp hi
  have h := View.read_writes_cons_emb (Val := Elt F) v f (Rect.whole s) w [] y
  rw [Rect.emb_whole_apply, hg] at h
  exact (cast_inj _).mp h

omit [FloatOps F] in
/-- A window of the buffer of rows reads the buffer at the window's start on. -/
theorem rows_read (n o : ℕ) (hn : o + n ≤ 31312) (inb) (h : Buf (Elt F) ((lV).view.loc (VT d L))) (y : (shape1 n).Idx) :
    (View.read (Elt F) ((lV).slice (Rect.unit (s := S31312) ![o] (shape1 n).size inb) (fun _ => rfl)).view h y : BitVec 32)
      = h (ix1 (⟨o + (y 0).val, by have : (y 0).val < n := (y 0).isLt; omega⟩ : Fin 31312)) := by
  refine congrArg h (funext fun a => Fin.ext ?_)
  obtain rfl : a = (0 : Fin 1) := Subsingleton.elim (α := Fin 1) _ _
  show o + 1 * (y 0).val = o + (y 0).val
  rw [Nat.one_mul]

omit [FloatOps F] in
/-- A window of the result reads the result at the window's start on. -/
theorem named_read (k n o : ℕ) (off : Fin 1 → ℕ) (ho : off 0 = o) (inb) (y : (shape1 n).Idx) :
    (View.read (Elt F) ((oV).slice (Rect.unit (s := S1000000) off (shape1 n).size inb) (fun _ => rfl)).view (named m d k) y : BitVec 32)
      = LastWins.named (ids m d) (o + (y 0).val) k := by
  show LastWins.named (ids m d) (off 0 + 1 * (y 0).val) k = _
  rw [ho, Nat.one_mul]

omit [FloatOps F] in
/-- The block written from a buffer that holds all the ids is the result's. -/
theorem blk_out (h : Buf (Elt F) ((lV).view.loc (VT d L))) (hh : Holds m d L 100000 h) (w : S31248.Idx → BitVec 32)
    (hw : w = View.read (Elt F) ((lV).slice (Rect.unit (s := S31312) ![0] S31248.size inb_S31312_S31248_0) (fun _ => rfl)).view h) :
    ((oBlk L).view.loc (VT d L) ↦[(oBlk L).view.set]{fullShare}
        (oBlk L).view.writes (Elt F) (m (oLoc d)) [⟨Rect.whole S31248, w⟩] : sProp 𝕄)
      = ((oBlk L).view.loc (VT d L) ↦[(oBlk L).view.set]{fullShare} OUT m d) := by
  refine pts_write_whole (F := F) d L (oBlk L).view (m (oLoc d)) (OUT m d) w fun y => ?_
  have hy : (y 0).val < 31248 := (y 0).isLt
  have hlh := lo_le_hi L
  have e := rows_read (F := F) d L 31248 0 (by omega) inb_S31312_S31248_0 h y
  have e' := named_read m d 100000 31248 (lo L) (k0_off4 L) (congrFun (k0_off4_eq L) 0) (k0_off4_inb L) y
  refine (congrFun hw y).trans (e.trans ((hh _ ?_).trans (Eq.trans ?_ e'.symm)))
  · show lo L + (0 + (y 0).val) < hi L; omega
  · show LastWins.named _ (lo L + (0 + (y 0).val)) _ = _
    rw [Nat.zero_add]

omit [FloatOps F] in
/-- The end written by the last tile, likewise. -/
theorem tail_out (h : Buf (Elt F) ((lV).view.loc (VT d L))) (hh : Holds m d L 100000 h) (w : S64.Idx → BitVec 32)
    (hw : w = View.read (Elt F) ((lV).slice (Rect.unit (s := S31312) ![31248] S64.size inb_S31312_S64_31248) (fun _ => rfl)).view h)
    (hl : IsLast L) :
    ((oTail).view.loc (VT d L) ↦[(oTail).view.set]{fullShare}
        (oTail).view.writes (Elt F) (m (oLoc d)) [⟨Rect.whole S64, w⟩] : sProp 𝕄)
      = ((oTail).view.loc (VT d L) ↦[(oTail).view.set]{fullShare} OUT m d) := by
  refine pts_write_whole (F := F) d L (oTail).view (m (oLoc d)) (OUT m d) w fun y => ?_
  have hy : (y 0).val < 64 := (y 0).isLt
  have hlo := last_lo hl
  have hhi : hi L = 1000000 := if_pos hl
  have e := rows_read (F := F) d L 64 31248 (by omega) inb_S31312_S64_31248 h y
  have e' := named_read m d 100000 64 999936 ![999936] rfl inb_S1000000_S64_999936 y
  refine (congrFun hw y).trans (e.trans ((hh _ ?_).trans (Eq.trans ?_ e'.symm)))
  · show lo L + (31248 + (y 0).val) < hi L; omega
  · show LastWins.named _ (lo L + (31248 + (y 0).val)) _ = _
    rw [hlo, ← Nat.add_assoc]

/-- The end of the result, which the last tile alone is dealt. -/
def tailPts (f : Buf (Elt F) (oLoc d)) : sProp 𝕄 :=
  if IsLast L then ((oTail).view.loc (VT d L) ↦[(oTail).view.set]{fullShare} f) else iprop(emp)

omit [FloatOps F] in
/-- The last tile is dealt it. -/
theorem tailPts_last (hl : IsLast L) (f : Buf (Elt F) (oLoc d)) :
    (tailPts d L f : sProp 𝕄) = ((oTail).view.loc (VT d L) ↦[(oTail).view.set]{fullShare} f) := if_pos hl
omit [FloatOps F] in
/-- No other tile is. -/
theorem tailPts_other (hl : ¬ IsLast L) (f : Buf (Elt F) (oLoc d)) : (tailPts d L f : sProp 𝕄) = iprop(emp) := if_neg hl

/-- The three cells of the tile's copies, at zero. -/
abbrev cells0 : sProp 𝕄 :=
  iprop(semVal (VT d L, SemLoc.dma cc0_scoped0.sem) 0 ∗ semVal (VT d L, SemLoc.dma cc0_scoped1.sem) 0
    ∗ semVal (VT d L, SemLoc.dma cc0_scoped2.sem) 0)

/-- The tile's body, from the pieces it is dealt to the same pieces with its rows of the result computed. -/
theorem tile_run (q : PosShare TreeShare) (O : CellTallies nD τ sig (HIx 1)) (W : Waits sig (HIx 1))
    (b0 : Buf (Elt F) ((bV).view.loc (VT d L))) (g0 : Buf (Elt F) ((lV).view.loc (VT d L))) :
    (iprop(Transfers.MayWaits (VT d L) (default : HIx 1) O
        ∗ ((iV).view.loc (VT d L) ↦{q} m (iLoc d))
        ∗ ((oBlk L).view.loc (VT d L) ↦[(oBlk L).view.set]{fullShare} m (oLoc d))
        ∗ tailPts d L (m (oLoc d))
        ∗ ((bV).view.loc (VT d L) ↦{fullShare} b0)
        ∗ ((lV).view.loc (VT d L) ↦{fullShare} g0)
        ∗ cells0 d L
        ∗ owes (VT d L) O W) : sProp 𝕄)
      ⊢ wp frame (wpE (defs₀ (F := F)) 𝒱₀ (VT d L) none) Set.univ
          (cc0_idx_map_kernel L iV (Memref.isWhole_whole _) oV (Memref.isWhole_whole _) bV (Memref.isWhole_whole _) lV (Memref.isWhole_whole _)
            cc0_scoped0 cc0_scoped1 cc0_scoped2)
          fun _ => iprop(((iV).view.loc (VT d L) ↦{q} m (iLoc d))
            ∗ ((oBlk L).view.loc (VT d L) ↦[(oBlk L).view.set]{fullShare} OUT m d)
            ∗ tailPts d L (OUT m d)
            ∗ (∃ b, (bV).view.loc (VT d L) ↦{fullShare} b)
            ∗ (∃ g, (lV).view.loc (VT d L) ↦{fullShare} g)
            ∗ cells0 d L
            ∗ ∃ W', owes (VT d L) O W') := by
  rw [cc0_idx_map_kernel_eq_skeleton]
  unfold cc0_idx_map_kernel_skel
  iintro ⟨#Hmw, Hi, Ho, Ht, Hb, Hl, ⟨Hs0, Hs1, Hs2⟩, HO⟩
  sl_exec
  sl_for (clearInv d L) $$ [Hl]
  case region =>
    intro k _
    exact clear_step d L k
  · unfold clearInv
    iexists g0
    isplitr
    · ipureintro; intro j hj; exact absurd hj (by omega)
    · iexact Hl
  iintro %_ HI
  unfold clearInv
  icases HI with ⟨%g, %hg, Hl⟩
  sl_exec
  sl_for (chunkInv m d L q O) $$ [Hi Hb Hl Hs0 HO]
  case region =>
    intro k _
    exact chunk_step m d L q O k
  · unfold chunkInv
    isplitr; · iexact Hmw
    isplitl [Hi]; · iexact Hi
    isplitl [Hb]; · iexists b0; iexact Hb
    isplitl [Hl]
    · iexists g
      isplitr
      · ipureintro
        intro j _
        refine hg j ?_
        rw [show Scf.trips k0_t1_loop.lb k0_t1_loop.ub k0_t1_loop.st = 1957 by decide]
        exact (j 0).isLt
      · iexact Hl
    isplitl [Hs0]; · iexact Hs0
    iexists W; iexact HO
  iintro %_ HI
  unfold chunkInv
  icases HI with ⟨-, Hi, ⟨%b, Hb⟩, ⟨%h, %hh, Hl⟩, Hs0, ⟨%W', HO⟩⟩
  have hh' : Holds m d L 100000 h := hh
  sl_exec (disch := exact View.amount_pos _ _ (show 0 < S31248.numel by decide))
  have hcond := last_cond L
  rcases Classical.em (IsLast L) with hl | hl
  · have hc : tile_run.sl.v11 L = 1#1 := hcond.2 hl
    ihave Ht := (Entails.of_eq (tailPts_last (F := F) d L hl _)) $$ Ht
    sl_exec (disch := first | sl_exact hc | exact View.amount_pos _ _ (show 0 < S64.numel by decide))
    ihave Ho := (Entails.of_eq (blk_out m d L h hh' (tile_run.sl.dma0 d L h) rfl)) $$ Ho
    ihave Ht := (Entails.of_eq ((tail_out m d L h hh' (tile_run.sl.dma0_1 d L h) rfl hl).trans (tailPts_last (F := F) d L hl _).symm)) $$ Ht
    sl_step
    sl_close
  · have hc : ¬ tile_run.sl.v11 L = 1#1 := fun e => hl (hcond.1 e)
    ihave Ht := (Entails.of_eq ((tailPts_other (F := F) d L hl _).trans (tailPts_other (F := F) d L hl (OUT m d)).symm)) $$ Ht
    sl_exec (disch := sl_exact hc)
    ihave Ho := (Entails.of_eq (blk_out m d L h hh' (tile_run.sl.dma0 d L h) rfl)) $$ Ho
    sl_step
    sl_close

end Tile

end Cert.KernelIdeal.Tile

end
-- ==== Proof.KernelIdeal.Launch.lean ====
/-
  The program's launch: the ids dealt by shares and the result by rows to the two SparseCores and their sixteen tiles each, each
  tile's body run, the pieces joined, and what the program's every run ends at.
-/
module

public import proofs.«01_k».proof.Proof.KernelIdeal.Tile

@[expose] public section

noncomputable section

namespace Cert.KernelIdeal.Launch

open Cert.KernelIdeal Cert.KernelIdeal.Gen Cert.KernelIdeal.Words Cert.KernelIdeal.Tile

open Idealize.ShloMosaic Idealize.ShloMosaic.ValueIdx
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows dealt -/

/-- The tile of subcore `s` of SparseCore `c`. -/
def tile (c : Fin (grid0.bound 0)) (s : Fin (grid0.bound 1)) : grid0.Coords :=
  fun | 0 => c | 1 => s | ⟨_ + 2, h⟩ => absurd h (Nat.not_lt.2 (Nat.le_add_left _ _))

/-- The rows of the tile at `L`. -/
def rows (L : grid0.Coords) : Finset S1000000.Idx := Finset.univ.filter fun j => lo L ≤ (j 0).val ∧ (j 0).val < hi L

/-- The rows of a SparseCore's tiles. -/
def coreRows (c : Fin (grid0.bound 0)) : Finset S1000000.Idx := Finset.univ.biUnion fun s : Fin (grid0.bound 1) => rows (tile c s)

/-- A row is of the tile at `L` when it is in the tile's range. -/
theorem mem_rows {L : grid0.Coords} {j : S1000000.Idx} : j ∈ rows L ↔ lo L ≤ (j 0).val ∧ (j 0).val < hi L := by
  simp only [rows, Finset.mem_filter, Finset.mem_univ, true_and]

/-- A row is of one tile: the tile's coordinates are the row's. -/
theorem rows_unique {L : grid0.Coords} {j : S1000000.Idx} (h : j ∈ rows L) :
    2 * (L 1).val + (L 0).val = min ((j 0).val / 31248) 31 := by
  rw [mem_rows] at h
  have h0 : (L 0).val < 2 := (L 0).isLt
  have h1 : (L 1).val < 16 := (L 1).isLt
  obtain ⟨ha, hb⟩ := h
  unfold hi lo at *
  by_cases hl : IsLast L
  · rw [if_pos hl] at hb
    obtain ⟨e0, e1⟩ := hl
    rw [e0, e1] at ha ⊢
    omega
  · rw [if_neg hl] at hb
    omega

/-- Two tiles of one SparseCore have no row in common. -/
theorem rows_disjoint (c : Fin (grid0.bound 0)) :
    ∀ s ∈ (Finset.univ : Finset (Fin (grid0.bound 1))), ∀ s' ∈ (Finset.univ : Finset (Fin (grid0.bound 1))), s ≠ s' →
      Disjoint (rows (tile c s)) (rows (tile c s')) := fun s _ s' _ hne =>
  Finset.disjoint_left.mpr fun j h h' => hne (Fin.ext (by
    have e := rows_unique h
    have e' := rows_unique h'
    have a : (tile c s 1).val = s.val := rfl
    have a' : (tile c s' 1).val = s'.val := rfl
    have b : (tile c s 0).val = c.val := rfl
    have b' : (tile c s' 0).val = c.val := rfl
    omega))

/-- The two SparseCores have no row in common. -/
theorem coreRows_disjoint :
    ∀ c ∈ (Finset.univ : Finset (Fin (grid0.bound 0))), ∀ c' ∈ (Finset.univ : Finset (Fin (grid0.bound 0))), c ≠ c' →
      Disjoint (coreRows c) (coreRows c') := fun c _ c' _ hne =>
  Finset.disjoint_left.mpr fun j h h' => hne (Fin.ext (by
    obtain ⟨s, -, hs⟩ := Finset.mem_biUnion.mp h
    obtain ⟨s', -, hs'⟩ := Finset.mem_biUnion.mp h'
    have e := rows_unique hs
    have e' := rows_unique hs'
    have a : (tile c s 1).val = s.val := rfl
    have a' : (tile c' s' 1).val = s'.val := rfl
    have b : (tile c s 0).val = c.val := rfl
    have b' : (tile c' s' 0).val = c'.val := rfl
    have h0 : c.val < 2 := c.isLt
    have h0' : c'.val < 2 := c'.isLt
    omega))

/-- Every row is of one of the two SparseCores. -/
theorem coreRows_cover : (Finset.univ : Finset (Fin (grid0.bound 0))).biUnion coreRows = Finset.univ := by
  refine Finset.eq_univ_of_forall fun j => ?_
  have hj : (j 0).val < 1000000 := (j 0).isLt
  have hc : min ((j 0).val / 31248) 31 % 2 < 2 := Nat.mod_lt _ (by omega)
  have hs : min ((j 0).val / 31248) 31 / 2 < 16 := by omega
  refine Finset.mem_biUnion.mpr ⟨⟨_, hc⟩, Finset.mem_univ _, Finset.mem_biUnion.mpr ⟨⟨_, hs⟩, Finset.mem_univ _, ?_⟩⟩
  rw [mem_rows]
  have a : (tile ⟨_, hc⟩ ⟨_, hs⟩ 1).val = min ((j 0).val / 31248) 31 / 2 := rfl
  have b : (tile ⟨_, hc⟩ ⟨_, hs⟩ 0).val = min ((j 0).val / 31248) 31 % 2 := rfl
  unfold hi IsLast lo
  rw [a, b]
  split <;> omega

/-- The share of the ids a SparseCore is dealt. -/
abbrev coreShare (c : Fin (grid0.bound 0)) : PosShare TreeShare := Transfers.dealOf fullShare Finset.univ c
/-- The share of the ids a tile is dealt. -/
abbrev tileShare (c : Fin (grid0.bound 0)) (s : Fin (grid0.bound 1)) : PosShare TreeShare := Transfers.dealOf (coreShare c) Finset.univ s

variable [FloatOps F]

/-- What a SparseCore holds: its share of the ids, and its rows of the result at `f`. -/
abbrev corePts (d : Dev nD) (f : Buf (Elt F) (oLoc d)) (c : Fin (grid0.bound 0)) : sProp 𝕄 :=
  iprop((iLoc d ↦{coreShare c} m (iLoc d)) ∗ oLoc d ↦[coreRows c]{fullShare} f)
/-- What a tile holds: its share of the ids, and its rows of the result at `f`. -/
abbrev tilePts (d : Dev nD) (f : Buf (Elt F) (oLoc d)) (c : Fin (grid0.bound 0)) (s : Fin (grid0.bound 1)) : sProp 𝕄 :=
  iprop((iLoc d ↦{tileShare c s} m (iLoc d)) ∗ oLoc d ↦[rows (tile c s)]{fullShare} f)

/-- The ids and the result whole are what the two SparseCores hold. -/
theorem cores_eq (d : Dev nD) (f : Buf (Elt F) (oLoc d)) :
    (bigSep Finset.univ fun c : Fin (grid0.bound 0) => corePts m d f c)
      = (iprop((iLoc d ↦{fullShare} m (iLoc d)) ∗ oLoc d ↦{fullShare} f) : sProp 𝕄) := by
  rw [bigSep_sep', ← Transfers.pointsTo_deal Finset.univ ⟨(⟨0, by decide⟩ : Fin (grid0.bound 0)), Finset.mem_univ _⟩ fullShare,
    ← pointsTo_biUnion Finset.univ (ℓ := oLoc d) coreRows coreRows_disjoint, coreRows_cover]

/-- What a SparseCore holds is what its sixteen tiles hold. -/
theorem tiles_eq (d : Dev nD) (f : Buf (Elt F) (oLoc d)) (c : Fin (grid0.bound 0)) :
    (bigSep Finset.univ fun s : Fin (grid0.bound 1) => tilePts m d f c s) = (corePts m d f c : sProp 𝕄) := by
  rw [bigSep_sep', ← Transfers.pointsTo_deal Finset.univ ⟨(⟨0, by decide⟩ : Fin (grid0.bound 1)), Finset.mem_univ _⟩ (coreShare c),
    ← pointsTo_biUnion Finset.univ (ℓ := oLoc d) (fun s => rows (tile c s)) (rows_disjoint c)]
  rfl

/-- The launch runs on as many SparseCores as the grid has. -/
theorem nCore_zero : (K (F := F)).nCore 0 = grid0.bound 0 := rfl

/-- On each SparseCore the launch runs as many tiles as the grid has. -/
theorem nSub_zero : (K (F := F)).nSub 0 = grid0.bound 1 := rfl

/-- The launch hands each SparseCore its part and takes it back with its rows of the result computed; so each task its tile's. -/
def P : (K (F := F)).Pay (nD := nD) (Val := Elt F) (Name := ℕ) (U := UU) where
  st := fun q d c => match q with | 0 => corePts m d (m (oLoc d)) (Fin.cast nCore_zero c)
  dn := fun q d c => match q with | 0 => corePts m d (OUT m d) (Fin.cast nCore_zero c)
  go := fun q d c i => match q with | 0 => tilePts m d (m (oLoc d)) (Fin.cast nCore_zero c) (Fin.cast nSub_zero i)
  td := fun q d c i => match q with | 0 => tilePts m d (OUT m d) (Fin.cast nCore_zero c) (Fin.cast nSub_zero i)
  x := fun _ _ => iprop(emp)

/-- What the launch hands over can be kept in its handshakes. -/
instance P_storable : (P (F := F) m).IsStorable where
  st q d c := match q with
    | 0 => (inferInstance : BI.Storable (upEmb : UEmb _ 𝕄) (corePts m d (m (oLoc d)) (Fin.cast nCore_zero c)))
  dn q d c := match q with
    | 0 => (inferInstance : BI.Storable (upEmb : UEmb _ 𝕄) (corePts m d (OUT m d) (Fin.cast nCore_zero c)))
  go q d c i := match q with
    | 0 => (inferInstance : BI.Storable (upEmb : UEmb _ 𝕄) (tilePts m d (m (oLoc d)) (Fin.cast nCore_zero c) (Fin.cast nSub_zero i)))
  td q d c i := match q with
    | 0 => (inferInstance : BI.Storable (upEmb : UEmb _ 𝕄) (tilePts m d (OUT m d) (Fin.cast nCore_zero c) (Fin.cast nSub_zero i)))

/-! ## A tile's body between what it is dealt and what it returns -/

section Body

variable (d : Dev nD) (L : grid0.Coords)

omit [FloatOps F] in
/-- A tile's rows are the block its first copy writes and, at the last tile, the end its second copy writes. -/
theorem rows_pts (f : Buf (Elt F) (oLoc d)) :
    (oLoc d ↦[rows L]{fullShare} f : sProp 𝕄)
      = iprop(((oBlk L).view.loc (VT d L) ↦[(oBlk L).view.set]{fullShare} f) ∗ tailPts d L f) := by
  have hblk : ∀ j : S1000000.Idx, j ∈ (oBlk L).view.set ↔ lo L ≤ (j 0).val ∧ (j 0).val < lo L + 31248 := fun j => by
    rw [show (oBlk L).view.set = (Rect.unit (s := S1000000) (k0_off4 L) S31248.size (k0_off4_inb L)).set from View.set_slice_whole _ _,
      Rect.mem_set_unit, k0_off4_eq]
    exact ⟨fun h => h 0, fun h a => by obtain rfl : a = (0 : Fin 1) := Subsingleton.elim (α := Fin 1) _ _; exact h⟩
  have htail : ∀ j : S1000000.Idx, j ∈ (oTail).view.set ↔ 999936 ≤ (j 0).val ∧ (j 0).val < 1000000 := fun j => by
    rw [show (oTail).view.set = (Rect.unit (s := S1000000) ![999936] S64.size inb_S1000000_S64_999936).set from View.set_slice_whole _ _,
      Rect.mem_set_unit]
    exact ⟨fun h => h 0, fun h a => by obtain rfl : a = (0 : Fin 1) := Subsingleton.elim (α := Fin 1) _ _; exact h⟩
  by_cases hl : IsLast L
  · have hlo := last_lo hl
    have hhi : hi L = 1000000 := if_pos hl
    have hd : Disjoint (oBlk L).view.set (oTail).view.set := Finset.disjoint_left.mpr fun j h h' => by
      have := (hblk j).1 h; have := (htail j).1 h'; omega
    have hu : rows L = (oBlk L).view.set ∪ (oTail).view.set := Finset.ext fun j => by
      rw [Finset.mem_union, mem_rows]
      have hj : (j 0).val < 1000000 := (j 0).isLt
      rw [hblk j, htail j]
      omega
    rw [tailPts_last d L hl f, hu]
    exact BI.Entails.antisymm (pointsTo_union (ℓ := oLoc d) hd).1 (pointsTo_union (ℓ := oLoc d) hd).2
  · have hhi : hi L = lo L + 31248 := if_neg hl
    have hu : rows L = (oBlk L).view.set := Finset.ext fun j => by
      rw [mem_rows, hhi]; exact (hblk j).symm
    rw [tailPts_other d L hl f, hu]
    exact BI.Entails.antisymm sep_emp.2 sep_emp.1

/-- One of the three cells of the tile's copies. -/
abbrev cell (k : Fin 3) : GSem nD τ sig := (VT d L, SemLoc.dma (⟨k.val, k.isLt⟩ : DmaSem sig))

omit [FloatOps F] in
/-- The cells are the tile's own. -/
theorem cell_mem (k : Fin 3) : cell d L k ∈ ownCells (VT d L) :=
  mem_ownCells.mpr ⟨rfl, (show ∀ s : DmaSem sig, (SemLoc.dma s : SemLoc sig).isScoped .scVector = true by decide) _⟩

omit [FloatOps F] in
/-- The three cells are three. -/
theorem cell_injective : Function.Injective (cell d L) := fun a b h => by
  have e := congrArg (fun g : GSem nD τ sig => g.2) h
  simp only [SemLoc.dma.injEq, Fin.mk.injEq] at e
  exact Fin.ext e

omit [FloatOps F] in
/-- A tile's own cells at zero are the three its copies complete on, and the rest. -/
theorem ownSems0_V :
    (ownSems0 (VT d L) : sProp 𝕄)
      = iprop(cells0 d L ∗ bigSep ((ownCells (VT d L)) \ Finset.univ.image (cell d L)) fun g => semVal g 0) := by
  unfold SparseCore.Cfg.ownSems0
  rw [SparseCore.bigSep_sdiff_split' (t := Finset.univ.image (cell d L)) (Finset.image_subset_iff.mpr fun k _ => cell_mem d L k),
    SparseCore.bigSep_image_of_injOn (cell_injective d L).injOn, show (Finset.univ : Finset (Fin 3)) = {0, 1, 2} by decide,
    SparseCore.bigSep_insert' (by decide), SparseCore.bigSep_insert' (by decide), bigSep_singleton]
  rfl

omit [FloatOps F] in
/-- A tile's own buffers are the chunks', the rows', and the rest. -/
theorem ownBufs_V :
    (ownBufs (VT d L) : sProp 𝕄)
      = iprop((∃ b, (bV).view.loc (VT d L) ↦{fullShare} b) ∗ (∃ g, (lV).view.loc (VT d L) ↦{fullShare} g)
          ∗ bigSep (((ownRefs (τ := τ) (VT d L).2).erase ((VT d L).2.devRef cc0_scratch0)).erase ((VT d L).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (VT d L).2) (b := (VT d L).2.devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := (VT d L).2) (b := (VT d L).2.devRef cc0_scratch1) rfl⟩)]

/-- The body of the tile at `L`, from a share of the ids and its rows of the result to the same with its rows computed. -/
theorem tile_body (hF : (K (F := F)).Facts) (q : PosShare TreeShare) (O : CellTallies nD τ sig (HIx 1)) (W : Waits sig (HIx 1))
    (hO : ∀ g, O g none = 0) :
    (iprop(levAts (K (F := F)).L (K (F := F)).lev ∗ emp
        ∗ ((iLoc d ↦{q} m (iLoc d)) ∗ oLoc d ↦[rows L]{fullShare} m (oLoc d))
        ∗ scopedBufs (VT d L) ∗ scopedSems0 (VT d L) ∗ owes (VT d L) O W) : sProp 𝕄)
      ⊢ wp Idealize.ShloMosaic.frame (wpE (defs₀ (F := F)) 𝒱₀ (VT d L) none) Set.univ
          (cc0_idx_map_kernel L iV (Memref.isWhole_whole _) oV (Memref.isWhole_whole _) bV (Memref.isWhole_whole _) lV (Memref.isWhole_whole _)
            cc0_scoped0 cc0_scoped1 cc0_scoped2)
          fun _ => iprop(((iLoc d ↦{q} m (iLoc d)) ∗ oLoc d ↦[rows L]{fullShare} OUT m d)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V, rows_pts, rows_pts]
  iintro ⟨#Hlv, -, ⟨Hi, Ho, Ht⟩, ⟨⟨%b, Hb⟩, ⟨%g, Hg⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hi Ho Ht Hb Hg HC HO]
  · iapply (tile_run m d L q O W b g)
    isplitr; · iexact Hmw
    isplitl [Hi]; · iexact Hi
    isplitl [Ho]; · iexact Ho
    isplitl [Ht]; · iexact Ht
    isplitl [Hb]; · iexact Hb
    isplitl [Hg]; · iexact Hg
    isplitl [HC]; · iexact HC
    iexact HO
  iintro %_ ⟨Hi, Ho, Ht, Hb, Hg, HC, ⟨%W', HO⟩⟩
  isplitl [Hi Ho Ht]
  · isplitl [Hi]; · iexact Hi
    isplitl [Ho]; · iexact Ho
    iexact Ht
  isplitl [Hb Hg Hbufs]
  · isplitl [Hb]; · iexact Hb
    isplitl [Hg]; · iexact Hg
    iexact Hbufs
  isplitl [HC Hsems]
  · isplitl [HC]; · iexact HC
    iexact Hsems
  iexists W'
  isplitr
  · ipureintro
    intro p _
    rcases p.2 with _ | q
    · exact .inr (.inl rfl)
    · exact .inr (.inr (congrArg some (Subsingleton.elim q 0)))
  · iexact HO

end Body

/-! ## The launch's obligations -/

/-- The launch's semaphores and buffers are of the kinds a launch asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- What a vector subcore runs in the launch. -/
theorem defs₀_vector (c : Fin τ.nSC) (s : Fin τ.nSub) :
    defs₀ (F := F) (.scVector c s) 0 ()
      = SparseCore.onTile hcore0 hsub0 (fun c s => cc0_idx_map_kernel (tile c s)
          iV (Memref.isWhole_whole _) oV (Memref.isWhole_whole _) bV (Memref.isWhole_whole _) lV (Memref.isWhole_whole _)
          cc0_scoped0 cc0_scoped1 cc0_scoped2) ⟨⟩ c s := rfl

/-- Every task of the launch does what it is asked. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (tile ⟨_, hci.1⟩ ⟨_, hci.2⟩) facts _ O W hO

/-- A SparseCore's part is its tasks', and theirs are its part. -/
theorem vecSplit : (K (F := F)).VecSplit' (P m) 0 := by
  intro d c
  have e : ∀ f : Buf (Elt F) (oLoc d),
      (bigSep Finset.univ fun i : Fin ((K (F := F)).nSub 0) => tilePts m d f (Fin.cast nCore_zero c) (Fin.cast nSub_zero i))
        = (corePts m d f (Fin.cast nCore_zero c) : sProp 𝕄) := fun f => tiles_eq m d f _
  show corePts m d (m (oLoc d)) (Fin.cast nCore_zero c) ⊢ |={Set.univ}=> iprop(
      (bigSep Finset.univ fun i : Fin ((K (F := F)).nSub 0) => tilePts m d (m (oLoc d)) (Fin.cast nCore_zero c) (Fin.cast nSub_zero i))
      ∗ ((bigSep Finset.univ fun i : Fin ((K (F := F)).nSub 0) => tilePts m d (OUT m d) (Fin.cast nCore_zero c) (Fin.cast nSub_zero i))
          -∗ corePts m d (OUT m d) (Fin.cast nCore_zero c)))
  rw [e, e]
  iintro H
  imodintro
  isplitl [H]; · iexact H
  iintro H
  iexact H

/-! ## The launch's ghost state -/

/-- The handshakes' first rounds, beside no copy in flight. -/
def u₀ : UU := (initOf (K (F := F)).hsCells (K (F := F)).hsToks, 1)

/-- The handshakes' embedding in the launch's ghost state. -/
abbrev EH : Emb (URounds (GSem nD τ sig) ℕ) (MT nD τ sig (HIx 1) (Elt F) ℕ UU ℕ) := embL

/-- The launch's ghost state at the start gives the handshakes their first rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr; · iempintro
  iempintro

/-! ## The program's run -/

omit [FloatOps F] in
/-- The program's arrays are the table, the ids and the result. -/
theorem unscopedBufs_eq (d : Dev nD) (W : (b : Ref sig .tc) → Buf (Elt F) ((d.tc : Thread nD τ).loc b)) :
    (unscopedBufs d W : sProp 𝕄)
      = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends holding on a device: the table and the ids as they were, and the result computed. -/
abbrev FIN (d : Dev nD) : sProp 𝕄 :=
  iprop((tLoc d ↦{fullShare} m (tLoc d)) ∗ (iLoc d ↦{fullShare} m (iLoc d)) ∗ oLoc d ↦{fullShare} OUT m d)

/-- The program on a device: its one launch, from the ids and the result to the same with the result computed. -/
theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c)
      = (iprop((iLoc d ↦{fullShare} m (iLoc d)) ∗ oLoc d ↦{fullShare} m (oLoc d)) : sProp 𝕄) := cores_eq m d (m (oLoc d))
  have hdn : (bigSep Finset.univ fun c : Fin ((K (F := F)).nCore 0) => (P m).dn 0 d c)
      = (iprop((iLoc d ↦{fullShare} m (iLoc d)) ∗ oLoc d ↦{fullShare} OUT m d) : sProp 𝕄) := cores_eq m d (OUT m d)
  unfold SparseCore.Cfg.tcRes SparseCore.Cfg.tcEnd
  rw [unscopedBufs_eq]
  simp only [main, wp_bind, wp_pure]
  iintro ⟨#Hctx, Hst, ⟨Hb, ⟨Ht, Hi, Ho⟩, Hts, -⟩, -⟩
  iapply ((K (F := F)).wp_run (D (F := F)) 𝒱 (EH := EH) (P := P m) κ d 0) $$ [Hst Ht Hi Ho Hb Hts]
  isplitr; · iexact Hctx
  isplitl [Hst]; · iexact Hst
  isplitl [Hi Ho]
  · rw [hst]
    isplitl [Hi]; · iexact Hi
    iexact Ho
  iintro ⟨Hst, Hdn⟩
  ihave Hdn' := (Entails.of_eq hdn) $$ Hdn
  icases Hdn' with ⟨Hi, Ho⟩
  imodintro
  isplitl [Hst]; · iexact Hst
  isplitl [Ht Hi Ho]
  · isplitl [Ht]; · iexact Ht
    isplitl [Hi]; · iexact Hi
    iexact Ho
  isplitl [Hb] <;> iassumption

/-- What a device's memory is at the program's end. -/
def Ends (d : Dev nD) (s : Phys nD τ sig (Elt F)) : Prop :=
  s.mem.mem (tLoc d) = m (tLoc d) ∧ s.mem.mem (iLoc d) = m (iLoc d) ∧ s.mem.mem (oLoc d) = OUT m d

/-- What the program ends holding on a device says what the device's memory is. -/
theorem hfin (d : Dev nD) (s : Phys nD τ sig (Elt F)) : iprop(FIN m d ∗ SI s) ⊢ (⌜Ends m d s⌝ : sProp 𝕄) := by
  iintro ⟨⟨Ht, Hi, Ho⟩, HSI⟩
  ihave H := (persistent_entails_right (SI_pointsTo_agree (st := s) (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s) (ℓ := iLoc d) (I := Finset.univ) (q := fullShare) (f := m (iLoc d)))) $$ [HSI Hi]
  · isplitl [HSI] <;> iassumption
  icases H with ⟨%h2, HSI, -⟩
  ihave H := (SI_pointsTo_agree (st := s) (ℓ := oLoc d) (I := Finset.univ) (q := fullShare) (f := OUT m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- Where a run of the program ends: every device's table and ids as they were and its result computed, every semaphore at zero. -/
def Q : PUnit × MemSt nD τ sig (Elt F) → Prop := fun r =>
  (∀ c : Dev nD, r.2.mem (tLoc c) = m (tLoc c) ∧ r.2.mem (iLoc c) = m (iLoc c) ∧ r.2.mem (oLoc c) = OUT m c) ∧ r.2.sem = fun _ => 0

/-- Every run of the program, from any memory, ends there. -/
theorem run_main [∀ e, Nonempty (Elt F e)] :
    θ_run (Cert.KernelIdeal.defs (F := F)) (Cert.KernelIdeal.threads (F := F)) ⟨m, fun _ => 0, ρ⟩ (Q m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (Ends m) (hfin m) (Q m) (fun _ h hz => ⟨h, hz⟩)

end Cert.KernelIdeal.Launch

end
-- ==== Proof.Reference.lean ====
/-
  The reference program's run and its value: from any memory it ends with its arguments kept and every semaphore at zero, and when no
  index is negative its result at row `n` is the last position of the index list that names `n`, the function the kernel computes.
-/
module

public import proofs.«01_k».proof.Defs
public import proofs.«01_k».proof.Proof.LastWins
public import proofs.«01_k».proof.Proof.Gen.ReferenceIdeal
public import proofs.«01_k».proof.Proof.Gen.ReferenceIdeal.Run
public import proofs.«01_k».proof.Proof.Gen.Pre_rows_nonneg
public import Idealize.ShloMosaic.Lib.ReduceAll
public import Idealize.ShloMosaic.Lib.Routing.OpsPair
public import Idealize.ShloMosaic.Lib.Routing.Ops

@[expose] public section

noncomputable section

namespace Cert.Reference

open Idealize.ShloMosaic Idealize.ShloMosaic.ValueIdx Idealize.ShloMosaic.Routing Idealize.SL.Sem

/-- Where the wrapped index vector — `idx + a` for a negative word, `idx` otherwise — is laid out as one column and the positions
    `0 … M - 1` are scattered by it into a table of zeros, entry `x` is the last position whose word is `x`, no word being negative. -/
theorem scatter_named {N M : ℕ} (d : ScatterDims (shape1 N) (shape2 M 1) (shape1 M)) (hiw : d.insertedWindowDims = [0])
    (hsd : d.scatterDimsToOperandDims = [0]) (hivd : d.indexVectorDim = 1) (x0 : IVec (shape1 N) 32) (h0 : ∀ j, x0 j = 0#32)
    (idx a z : IVec (shape1 M) 32) (hz : ∀ j, z j = 0#32) (hpos : ∀ j, (idx j).toNat < 2 ^ 31)
    (hb : (shape1 M).BroadcastsInDim (shape2 M 1) ![0]) (x : Fin N) :
    Host.scatter d (fun _ b => b) x0 (broadcastInDim (shape2 M 1) ![0] hb (select (cmpi .slt idx z) a idx))
      (iotaInDim (shape1 M) 32 0) (ix1 x) = LastWins.named (LastWins.wordAt idx) x.val M := by
  rw [LastWins.scatter_last d hiw hsd hivd x0 _ _ x (fun b => (LastWins.wordAt idx b).toNat = x.val) (fun b => BitVec.ofNat 32 b)
    (fun i => ?_) (fun i => rfl), h0]
  · rfl
  · have hcol : broadcastInDim (shape2 M 1) ![0] hb (select (cmpi .slt idx z) a idx) (ix2 i (0 : Fin 1)) =
        select (cmpi .slt idx z) a idx (ix1 i) :=
      bcCol hb _ i
    have hw : select (cmpi .slt idx z) a idx (ix1 i) = idx (ix1 i) := by
      show Scalar.select (IntOp.cmpi .slt (idx (ix1 i)) (z (ix1 i))) (a (ix1 i)) (idx (ix1 i)) = _
      rw [hz]
      exact wrap_of_lt _ _ (hpos _)
    rw [hcol, hw, LastWins.wordAt_lt, WordCmp.toInt_eq_toNat_of_lt_half (hpos (ix1 i))]
    exact Int.ofNat_inj

/-- The precondition in words: if `rows_nonneg` is all ones, no index word is negative. -/
theorem rows_nonneg_all {F : FTy → Type} [FloatOps F] (x : FVec F Cert.Pre_rows_nonneg.S1000000x32 .f32)
    (idx : IVec Cert.Pre_rows_nonneg.S100000 32) (h : Cert.Pre_rows_nonneg.fn x idx = fun _ => 1#1) (j : Cert.Pre_rows_nonneg.S100000.Idx) :
    (idx j).toNat < 2 ^ 31 := by
  have hj := Host.reduce_andi_all (t := Cert.Pre_rows_nonneg.S_) _ _ _ _ (fun a => a.elim0) (congrFun h (fun a => a.elim0)) j
  have hc : IntOp.cmpi .sge (idx j) 0#32 = 1#1 := hj
  rw [WordCmp.cmpi_sge_zero] at hc
  by_contra hn
  rw [decide_eq_false hn] at hc
  exact absurd hc (by decide)

/-- The reference's run: its result at row `n` is the last position of the index list that names `n`, or zero, when no index is
    negative; its arguments are kept; every semaphore ends at zero. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        ((∀ j, (m ((c.tc : Thread Cert.ReferenceIdeal.nD Cert.ReferenceIdeal.τ).loc Cert.ReferenceIdeal.main_arg1) j).toNat < 2 ^ 31) →
          ∀ x : Fin 1000000, r.2.mem ((c.tc : Thread Cert.ReferenceIdeal.nD Cert.ReferenceIdeal.τ).loc Cert.ReferenceIdeal.main_v8) (ix1 x) =
            LastWins.named (LastWins.wordAt (M := 100000)
              (m ((c.tc : Thread Cert.ReferenceIdeal.nD Cert.ReferenceIdeal.τ).loc Cert.ReferenceIdeal.main_arg1))) x.val 100000)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) := by
  refine (θ_run Cert.ReferenceIdeal.defs _ _).mono (fun r h => ⟨fun c => ⟨fun hpos x => ?_, (h c).2⟩,
    sem_eq_zero_of_no_sems (by decide) r.2⟩) (Cert.ReferenceIdeal.Value.run (F := Ideal) m ρ)
  rw [(h c).1]
  exact scatter_named (N := 1000000) (M := 100000) _ rfl rfl rfl _ (fun _ => rfl) _ _ _ (fun _ => rfl) hpos _ x

end Cert.Reference

end
-- ==== Proof.lean ====
/-
  The five claims about the last-position scatter kernel, put together. The kernel's run (`Kernel/Launch`, `KernelIdeal/Launch`: one
  text at the two programs) says what every buffer ends as; the two frames of the kernel drop the value, the algebraic claim keeps it
  and meets the reference's run (`Reference`) at the same function of the index list.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_rows_nonneg
public import proofs.«01_k».proof.Proof.Kernel.Launch
public import proofs.«01_k».proof.Proof.KernelIdeal.Launch
public import proofs.«01_k».proof.Proof.Reference
public import Idealize.ShloMosaic.Adequacy
public import Idealize.ShloMosaic.Init

@[expose] public section

noncomputable section

namespace Cert.Proof

open Idealize.ShloMosaic Idealize.SL.Sem

/-- The kernel as printed runs from any memory, keeps its two arguments and ends with every semaphore at zero. -/
theorem frame_kernel : Cert.quiescent_Kernel := fun m ρ _ =>
  (θ_run Cert.Kernel.defs _ _).mono (fun _ h => ⟨fun c => ⟨(h.1 c).1, (h.1 c).2.1⟩, h.2⟩) (Cert.Kernel.Launch.run_main (F := Bits) m ρ)

/-- The same of the kernel read at the ideal instance. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Launch.run_main (F := Ideal) m ρ)

/-- The reference runs from any memory, keeps its two arguments and ends with every semaphore at zero. -/
theorem frame_reference : Cert.quiescent_ReferenceIdeal := fun m ρ _ =>
  (θ_run Cert.ReferenceIdeal.defs _ _).mono (fun _ h => ⟨fun c => (h.1 c).2, h.2⟩) (Cert.Reference.run m ρ)

/-- From memories that agree on the arguments and whose index words are not negative, kernel and reference end with one result: at row
    `n` the last position of the index list that names `n`, or zero where none does. -/
theorem algebraic : Cert.algebraic_KernelIdeal_ReferenceIdeal_pre_rows_nonneg := by
  intro m ρ m' ρ' hpre hagree
  refine ⟨fun c => Cert.KernelIdeal.Tile.OUT m c,
    (θ_run Cert.KernelIdeal.defs _ _).mono (fun _ h c => ⟨(h.1 c).2.2, (h.1 c).1, (h.1 c).2.1⟩)
      (Cert.KernelIdeal.Launch.run_main (F := Ideal) m ρ),
    (θ_run Cert.ReferenceIdeal.defs _ _).mono (fun r h c => ⟨?_, (h.1 c).2⟩) (Cert.Reference.run m' ρ')⟩
  have hidx := (hagree c).2
  funext j
  obtain ⟨x, rfl⟩ := LastWins.exists_ix1 j
  refine ((h.1 c).1 (fun i => ?_) x).trans ?_
  · rw [hidx]
    exact Cert.Reference.rows_nonneg_all _ _ (hpre c) i
  · rw [hidx]
    rfl

/-- All the claims of this certificate, under the side conditions the generated modules prove. -/
theorem claim : Cert.Claim := ⟨Cert.Kernel.Gen.facts, Cert.KernelIdeal.Gen.facts, Cert.ReferenceIdeal.Gen.facts, Cert.Pre_rows_nonneg.Gen.facts,
  frame_kernel, frame_ideal, fun m ρ _ => frame_ideal m ρ trivial, frame_reference, fun m ρ _ => frame_reference m ρ trivial, trivial,
  algebraic⟩

end Cert.Proof

end
